-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x1024 : Shape := ⟨3, ![2, 2048, 1024]⟩
abbrev S64x1024 : Shape := ⟨2, ![64, 1024]⟩
abbrev S64 : Shape := ⟨1, ![64]⟩
abbrev S1x64 : Shape := ⟨2, ![1, 64]⟩
abbrev S2x2048x64 : Shape := ⟨3, ![2, 2048, 64]⟩
abbrev S1x512x1024 : Shape := ⟨3, ![1, 512, 1024]⟩
abbrev S1x2048x1024 : Shape := ⟨3, ![1, 2048, 1024]⟩
abbrev S1x512x64 : Shape := ⟨3, ![1, 512, 64]⟩
abbrev S512x1024 : Shape := ⟨2, ![512, 1024]⟩
abbrev S2048x1024 : Shape := ⟨2, ![2048, 1024]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S64x64 : Shape := ⟨2, ![64, 64]⟩

abbrev nBuf : Space → Nat
  | .hbm => 7
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S64x1024, .f32⟩
  | .hbm, ⟨4, _⟩ => ⟨S64, .f32⟩
  | .hbm, ⟨5, _⟩ => ⟨S1x64, .f32⟩
  | .hbm, ⟨6, _⟩ => ⟨S2x2048x64, .f32⟩
  | .local _ .vmem, ⟨0, _⟩ => ⟨S1x512x1024, .f32⟩
  | .local _ .vmem, ⟨1, _⟩ => ⟨S1x512x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S64x1024, .f32⟩
  | .local _ .vmem, ⟨7, _⟩ => ⟨S1x64, .f32⟩
  | .local _ .vmem, ⟨8, _⟩ => ⟨S1x512x64, .f32⟩
  | .local _ .vmem, ⟨9, _⟩ => ⟨S1x512x64, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x2048x1024 : Shape := ⟨3, ![2, 2048, 1024]⟩
abbrev S64x1024 : Shape := ⟨2, ![64, 1024]⟩
abbrev S64 : Shape := ⟨1, ![64]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S1024x64 : Shape := ⟨2, ![1024, 64]⟩
abbrev S2x2048x64 : Shape := ⟨3, ![2, 2048, 64]⟩
abbrev S1x1x64 : Shape := ⟨3, ![1, 1, 64]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S64x1024, .f32⟩
  | .hbm, ⟨4, _⟩ => ⟨S64, .f32⟩
  | .hbm, ⟨5, _⟩ => ⟨S2x2048x16x64, .f32⟩
  | .hbm, ⟨6, _⟩ => ⟨S2x16x2048x64, .f32⟩
  | .hbm, ⟨7, _⟩ => ⟨S2x2048x16x64, .f32⟩
  | .hbm, ⟨8, _⟩ => ⟨S2x16x2048x64, .f32⟩
  | .hbm, ⟨9, _⟩ => ⟨S2x2048x16x64, .f32⟩
  | .hbm, ⟨10, _⟩ => ⟨S2x16x2048x64, .f32⟩
  | .hbm, ⟨11, _⟩ => ⟨S2x16x2048x2048, .f32⟩
  | .hbm, ⟨12, _⟩ => ⟨S_, .f32⟩
  | .hbm, ⟨13, _⟩ => ⟨S2x16x2048x2048, .f32⟩
  | .hbm, ⟨14, _⟩ => ⟨S2x16x2048x2048, .f32⟩
  | .hbm, ⟨15, _⟩ => ⟨S_, .f32⟩
  | .hbm, ⟨16, _⟩ => ⟨S2x16x2048, .f32⟩
  | .hbm, ⟨17, _⟩ => ⟨S_, .f32⟩
  | .hbm, ⟨18, _⟩ => ⟨S2x16x2048, .f32⟩
  | .hbm, ⟨19, _⟩ => ⟨S2x16x2048, .f32⟩
  | .hbm, ⟨20, _⟩ => ⟨S2x16x2048x1, .f32⟩
  | .hbm, ⟨21, _⟩ => ⟨S2x16x2048x2048, .f32⟩
  | .hbm, ⟨22, _⟩ => ⟨S2x16x2048x2048, .f32⟩
  | .hbm, ⟨23, _⟩ => ⟨S2x16x2048x2048, .f32⟩
  | .hbm, ⟨24, _⟩ => ⟨S_, .f32⟩
  | .hbm, ⟨25, _⟩ => ⟨S2x16x2048, .f32⟩
  | .hbm, ⟨26, _⟩ => ⟨S2x16x2048x1, .f32⟩
  | .hbm, ⟨27, _⟩ => ⟨S2x16x2048x2048, .f32⟩
  | .hbm, ⟨28, _⟩ => ⟨S2x16x2048x2048, .f32⟩
  | .hbm, ⟨29, _⟩ => ⟨S2x16x2048x64, .f32⟩
  | .hbm, ⟨30, _⟩ => ⟨S2x2048x16x64, .f32⟩
  | .hbm, ⟨31, _⟩ => ⟨S2x2048x1024, .f32⟩
  | .hbm, ⟨32, _⟩ => ⟨S1024x64, .f32⟩
  | .hbm, ⟨33, _⟩ => ⟨S2x2048x64, .f32⟩
  | .hbm, ⟨34, _⟩ => ⟨S1x1x64, .f32⟩
  | .hbm, ⟨35, _⟩ => ⟨S2x2048x64, .f32⟩
  | .hbm, ⟨36, _⟩ => ⟨S2x2048x64, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Proof.Attention.lean ====
/-
  The mathematics that kernel and reference share: one query row's softmax attention over the 2048 keys of its head, as a
  function on extended reals, and the regrouping of a sum over 1024 features into 16 heads of 64.
-/
module

public import Idealize.ShloMosaic.Lib.Pointwise

@[expose] public section

noncomputable section

namespace Cert.Attn

open Idealize.ShloMosaic

/-- The score of one query against key `j`: their inner product times the literal 1/8. -/
def score (q : Fin 64 → EReal) (k : Fin 2048 → Fin 64 → EReal) (j : Fin 2048) : EReal :=
  (∑ d : Fin 64, q d * k j d) * Ideal.ofBits .f32 0x3E000000#32

/-- The largest of the scores, folded from the literal for minus infinity. -/
def top (s : Fin 2048 → EReal) : EReal :=
  Finset.univ.fold max (Ideal.ofBits .f32 0xFF800000#32) s

/-- A score's exponential after the largest score is subtracted. -/
def weight (s : Fin 2048 → EReal) (j : Fin 2048) : EReal := Ideal.exp (s j - top s)

/-- The softmax of the scores at key `j`. -/
def prob (s : Fin 2048 → EReal) (j : Fin 2048) : EReal := Ideal.div (weight s j) (∑ l : Fin 2048, weight s l)

/-- Coordinate `d` of the mixture of the values, weighted by the softmax of the query's scores. -/
def mix (q : Fin 64 → EReal) (k v : Fin 2048 → Fin 64 → EReal) (d : Fin 64) : EReal :=
  ∑ j : Fin 2048, prob (score q k) j * v j d

/-- Comparing the folded maximum once more with its start changes nothing. -/
theorem max_top (s : Fin 2048 → EReal) : max (Ideal.ofBits .f32 0xFF800000#32) (top s) = top s :=
  max_eq_right (Finset.le_fold_max _ |>.mpr (Or.inl le_rfl))

/-- The feature of head `h` with coordinate `d`. -/
def feat (h : Fin 16) (d : Fin 64) : Fin 1024 := ⟨h.val * 64 + d.val, by have := h.isLt; have := d.isLt; omega⟩

/-- A sum over the 1024 features is the sum over the heads of the sums over each head's 64 features. -/
theorem sum_feat (f : Fin 1024 → EReal) : ∑ e : Fin 1024, f e = ∑ h : Fin 16, ∑ d : Fin 64, f (feat h d) := by
  rw [← Fintype.sum_prod_type' (fun h d => f (feat h d)), ← Equiv.sum_comp (finProdFinEquiv (m := 16) (n := 64))]
  refine Finset.sum_congr rfl fun p _ => congrArg f (Fin.ext ?_)
  show p.2.val + 64 * p.1.val = p.1.val * 64 + p.2.val
  omega

end Cert.Attn

end
-- ==== Proof.Head.lean ====
/-
  What the kernel adds for one head: the head's softmax attention over the block's 512 query rows, projected by the head's
  64 columns of the output weight.
-/
module

public import proofs.«01_k».proof.Proof.Attention
public import proofs.«01_k».proof.Proof.Gen.KernelIdeal.Value

@[expose] public section

set_option maxRecDepth 16384

noncomputable section

namespace Cert.KernelIdeal.Head

open Cert.KernelIdeal Cert.KernelIdeal.Gen Idealize.ShloMosaic
open Cert.Attn

/-- The head's scores, scaled. -/
def scores (q : FVec Ideal S512x64 .f32) (k : FVec Ideal S2048x64 .f32) : FVec Ideal S512x2048 .f32 :=
  mulf (matmul dot_S512x64_S2048x64_S512x2048_1_1_0_0_n_n none q k (constant S512x2048 .f32 0x00000000#32))
    (broadcast S512x2048 (Scalar.ofBits .f32 0x3E000000#32))

/-- The exponentials of a block of scores, each row's largest score subtracted. -/
def exps (s : FVec Ideal S512x2048 .f32) : FVec Ideal S512x2048 .f32 :=
  exp (subf s (broadcastTo S512x2048
    (shapeCast S512x1 (multiReduction .maximumf [1] S512 s 0xFF800000#32 reduces_S512x2048_S512 (.inl rfl) rfl) shapeCasts_S512_S512x1)
    broadcasts_S512x1_S512x2048))

/-- A block of exponentials, each row divided by its sum. -/
def probs (e : FVec Ideal S512x2048 .f32) : FVec Ideal S512x2048 .f32 :=
  divf e (broadcastTo S512x2048
    (shapeCast S512x1 (multiReduction .add [1] S512 e 0x00000000#32 reduces_S512x2048_S512 (.inl rfl) rfl) shapeCasts_S512_S512x1)
    broadcasts_S512x1_S512x2048)

/-- The head's contribution to the output block. -/
def head (q : FVec Ideal S512x64 .f32) (k v : FVec Ideal S2048x64 .f32) (w : FVec Ideal S64x64 .f32) : FVec Ideal S512x64 .f32 :=
  matmul dot_S512x64_S64x64_S512x64_1_1_0_0_n_n none
    (matmul dot_S512x2048_S2048x64_S512x64_1_0_0_1_n_n none (probs (exps (scores q k))) v (constant S512x64 .f32 0x00000000#32))
    w (constant S512x64 .f32 0x00000000#32)

/-- The block's score at row `r` and key `j` is the score of row `r`'s query. -/
theorem scores_apply (q : FVec Ideal S512x64 .f32) (k : FVec Ideal S2048x64 .f32) (r : Fin 512) (j : Fin 2048) :
    scores q k (ix2 r j) = score (fun d => q (ix2 r d)) (fun j d => k (ix2 j d)) j := by
  unfold score
  pointwise [scores]

/-- An exponential's entry is its row's weight at key `j`. -/
theorem exps_apply (s : FVec Ideal S512x2048 .f32) (r : Fin 512) (j : Fin 2048) :
    exps s (ix2 r j) = weight (fun j => s (ix2 r j)) j := by
  unfold weight top
  pointwise [exps]

/-- A divided exponential is the exponential over its row's sum. -/
theorem probs_apply (e : FVec Ideal S512x2048 .f32) (r : Fin 512) (j : Fin 2048) :
    probs e (ix2 r j) = Ideal.div (e (ix2 r j)) (∑ l : Fin 2048, e (ix2 r l)) := by
  pointwise [probs]

/-- Row `r`, column `c` of the head's contribution. -/
theorem head_apply (q : FVec Ideal S512x64 .f32) (k v : FVec Ideal S2048x64 .f32) (w : FVec Ideal S64x64 .f32)
    (r : Fin 512) (c : Fin 64) :
    head q k v w (ix2 r c)
      = ∑ d : Fin 64, mix (fun d => q (ix2 r d)) (fun j d => k (ix2 j d)) (fun j d => v (ix2 j d)) d * w (ix2 c d) := by
  unfold mix prob
  pointwise [head]
  simp only [probs_apply, exps_apply, scores_apply]

end Cert.KernelIdeal.Head

end
-- ==== Proof.Block.lean ====
/-
  What one grid point leaves in the output block: the bias row, and one head's contribution after another.
-/
module

public import proofs.«01_k».proof.Proof.Head

@[expose] public section

set_option maxRecDepth 16384

noncomputable section

namespace Cert.KernelIdeal.Block

open Cert.KernelIdeal Cert.KernelIdeal.Gen Cert.KernelIdeal.Head Idealize.ShloMosaic
open Cert.Attn

/-- Head `h`'s 64 columns lie inside the 1024 features of the query block. -/
theorem slices_q (h : Fin 16) : S512x1024.Slices ![0, h.val * 64] S512x64 := by revert h; decide

/-- Head `h`'s 64 columns lie inside the 1024 features of the keys, and of the values. -/
theorem slices_k (h : Fin 16) : S2048x1024.Slices ![0, h.val * 64] S2048x64 := by revert h; decide

/-- Head `h`'s 64 columns lie inside the output weight. -/
theorem inb_w (h : Fin 16) (a : Fin 2) : (![0, h.val * 64] : Fin 2 → ℕ) a + S64x64.size a ≤ S64x1024.size a := by
  revert h a; decide

/-- The output block after the first `n` heads: the bias row in every row, then the heads' contributions in order. -/
def acc (q : FVec Ideal S512x1024 .f32) (k v : FVec Ideal S2048x1024 .f32) (w : Vec Ideal S64x1024 .f32) (b : Vec Ideal S1x64 .f32) :
    (n : ℕ) → n ≤ 16 → FVec Ideal S512x64 .f32
  | 0, _ => broadcastTo S512x64 (shapeCast S1x64 (shapeCast S1x64 b shapeCasts_S1x64_S1x64) shapeCasts_S1x64_S1x64) broadcasts_S1x64_S512x64
  | n + 1, hn => addf (acc q k v w b n (Nat.le_of_succ_le hn))
      (head (extractStridedSlice S512x64 ![0, (⟨n, hn⟩ : Fin 16).val * 64] q (slices_q ⟨n, hn⟩))
        (extractStridedSlice S2048x64 ![0, (⟨n, hn⟩ : Fin 16).val * 64] k (slices_k ⟨n, hn⟩))
        (extractStridedSlice S2048x64 ![0, (⟨n, hn⟩ : Fin 16).val * 64] v (slices_k ⟨n, hn⟩))
        (View.ld w (Rect.unit (s := S64x1024) ![0, (⟨n, hn⟩ : Fin 16).val * 64] S64x64.size (inb_w ⟨n, hn⟩))))

/-- The body's one store: the block after all 16 heads. -/
theorem out_eq (x0 : Vec Ideal S1x512x1024 .f32) (x1 x2 : Vec Ideal S1x2048x1024 .f32) (x3 : Vec Ideal S64x1024 .f32) (x4 : Vec Ideal S1x64 .f32) :
    out0_5 x0 x1 x2 x3 x4 = View.canon [⟨r0_19, shapeCast S1x512x64
      (acc (shapeCast S512x1024 (View.ld x0 r0_0) shapeCasts_S1x512x1024_S512x1024)
        (shapeCast S2048x1024 (View.ld x1 r0_1) shapeCasts_S1x2048x1024_S2048x1024)
        (shapeCast S2048x1024 (View.ld x2 r0_1) shapeCasts_S1x2048x1024_S2048x1024) x3 (View.ld x4 r0_2) 16 le_rfl)
      shapeCasts_S512x64_S1x512x64⟩] := rfl

/-- Head `h`'s contribution to row `r` and output channel `c`, from blocks of queries, keys, values and output weight. -/
def part (q : FVec Ideal S512x1024 .f32) (k v : FVec Ideal S2048x1024 .f32) (w : Vec Ideal S64x1024 .f32) (r : Fin 512) (c : Fin 64)
    (h : Fin 16) : EReal :=
  ∑ d : Fin 64, mix (fun d => q (ix2 r (feat h d))) (fun j d => k (ix2 j (feat h d))) (fun j d => v (ix2 j (feat h d))) d
    * w (ix2 c (feat h d))

/-- Head `h`'s slice of the query block reads its own features. -/
theorem slice_q_apply (q : FVec Ideal S512x1024 .f32) (h : Fin 16) (r : Fin 512) (d : Fin 64) :
    extractStridedSlice S512x64 ![0, h.val * 64] q (slices_q h) (ix2 r d) = q (ix2 r (feat h d)) := by
  unfold extractStridedSlice
  congr 1
  funext a
  apply Fin.ext
  fin_cases a <;> simp [feat, ix2]

/-- Head `h`'s slice of the keys, or of the values, reads its own features. -/
theorem slice_k_apply (k : FVec Ideal S2048x1024 .f32) (h : Fin 16) (j : Fin 2048) (d : Fin 64) :
    extractStridedSlice S2048x64 ![0, h.val * 64] k (slices_k h) (ix2 j d) = k (ix2 j (feat h d)) := by
  unfold extractStridedSlice
  congr 1
  funext a
  apply Fin.ext
  fin_cases a <;> simp [feat, ix2]

/-- The load of head `h`'s columns of the output weight reads its own features. -/
theorem load_w_apply (w : Vec Ideal S64x1024 .f32) (h : Fin 16) (c d : Fin 64) :
    View.ld w (Rect.unit (s := S64x1024) ![0, h.val * 64] S64x64.size (inb_w h)) (ix2 c d) = w (ix2 c (feat h d)) := by
  show w _ = w _
  congr 1
  funext a
  apply Fin.ext
  fin_cases a <;> simp [feat, ix2, Rect.emb, Rect.unit]

/-- `head` of head `h`'s slices is head `h`'s contribution. -/
theorem head_slices_apply (q : FVec Ideal S512x1024 .f32) (k v : FVec Ideal S2048x1024 .f32) (w : Vec Ideal S64x1024 .f32)
    (r : Fin 512) (c : Fin 64) (h : Fin 16) :
    head (extractStridedSlice S512x64 ![0, h.val * 64] q (slices_q h)) (extractStridedSlice S2048x64 ![0, h.val * 64] k (slices_k h))
      (extractStridedSlice S2048x64 ![0, h.val * 64] v (slices_k h))
      (View.ld w (Rect.unit (s := S64x1024) ![0, h.val * 64] S64x64.size (inb_w h))) (ix2 r c) = part q k v w r c h := by
  rw [head_apply]
  simp only [slice_q_apply, slice_k_apply]
  exact Finset.sum_congr rfl fun d _ => congrArg _ (load_w_apply w h c d)

/-- After `n` heads an entry is its bias and the first `n` contributions. -/
theorem acc_apply (q : FVec Ideal S512x1024 .f32) (k v : FVec Ideal S2048x1024 .f32) (w : Vec Ideal S64x1024 .f32) (b : Vec Ideal S1x64 .f32)
    (r : Fin 512) (c : Fin 64) (n : ℕ) (hn : n ≤ 16) :
    acc q k v w b n hn (ix2 r c) = b (ix2 0 c) + ∑ i : Fin n, part q k v w r c (Fin.castLE hn i) := by
  induction n with
  | zero =>
    unfold acc
    pointwise
    simp
  | succ n ih =>
    rw [Fin.sum_univ_castSucc, ← add_assoc]
    unfold acc
    exact congrArg₂ (· + ·) (ih (Nat.le_of_succ_le hn)) (head_slices_apply q k v w r c ⟨n, hn⟩)

/-- The output block after the body: at row `r` and channel `c` the sixteen heads' contributions and the bias. -/
theorem out_apply (x0 : Vec Ideal S1x512x1024 .f32) (x1 x2 : Vec Ideal S1x2048x1024 .f32) (x3 : Vec Ideal S64x1024 .f32) (x4 : Vec Ideal S1x64 .f32)
    (r : Fin 512) (c : Fin 64) :
    out0_5 x0 x1 x2 x3 x4 (ix3 0 r c) =
      (∑ h : Fin 16, ∑ d : Fin 64, mix (fun d => x0 (ix3 0 r (feat h d))) (fun j d => x1 (ix3 0 j (feat h d)))
        (fun j d => x2 (ix3 0 j (feat h d))) d * x3 (ix2 c (feat h d))) + x4 (ix2 0 c) := by
  have z3 : (![0, 0, 0] : Fin 3 → ℕ) = fun _ => 0 := by funext a; fin_cases a <;> rfl
  have z2 : (![0, 0] : Fin 2 → ℕ) = fun _ => 0 := by funext a; fin_cases a <;> rfl
  rw [out_eq, View.canon_unit_zero z3, View.ld_unit_zero z3, View.ld_unit_zero z3, View.ld_unit_zero z3, View.ld_unit_zero z2]
  have e0 (i : Fin 512) (e : Fin 1024) : shapeCast S512x1024 x0 shapeCasts_S1x512x1024_S512x1024 (ix2 i e) = x0 (ix3 0 i e) := by pointwise
  have e1 (x : Vec Ideal S1x2048x1024 .f32) (i : Fin 2048) (e : Fin 1024) :
      shapeCast S2048x1024 x shapeCasts_S1x2048x1024_S2048x1024 (ix2 i e) = x (ix3 0 i e) := by pointwise
  have e2 (y : FVec Ideal S512x64 .f32) : shapeCast S1x512x64 y shapeCasts_S512x64_S1x512x64 (ix3 0 r c) = y (ix2 r c) := by pointwise
  rw [e2, acc_apply, add_comm]
  simp only [part, e0, e1]
  rfl

end Cert.KernelIdeal.Block

end
-- ==== Proof.Array.lean ====
/-
  What the kernel leaves in its result array, read at an index: every grid point writes one block of it, and the blocks tile it.
-/
module

public import proofs.«01_k».proof.Proof.Block
public import proofs.«01_k».proof.Proof.Gen.KernelIdeal.Value
public import Idealize.ShloMosaic.Lib.Pipeline.ValueKit

@[expose] public section

set_option maxRecDepth 16384

noncomputable section

namespace Cert.KernelIdeal.Array

open Cert.KernelIdeal Cert.KernelIdeal.Gen Cert.KernelIdeal.Block Idealize.ShloMosaic Idealize.ShloMosaic.TcCoe Idealize.SL.Sem
open Cert.Attn

variable (m : (ℓ : Loc nD τ sig) → Buf (Elt Ideal) ℓ)

/-- The attention output of whole argument arrays: in batch `b`, at row `n` and channel `c`, the sixteen heads' contributions and the bias. -/
def result (x0 x1 x2 : FVec Ideal S2x2048x1024 .f32) (w : FVec Ideal S64x1024 .f32) (bias : FVec Ideal S64 .f32) : FVec Ideal S2x2048x64 .f32 :=
  fun i => (∑ h : Fin 16, ∑ d : Fin 64, mix (fun d => x0 (ix3 (i 0) (i 1) (feat h d))) (fun j d => x1 (ix3 (i 0) j (feat h d)))
    (fun j d => x2 (ix3 (i 0) j (feat h d))) d * w (ix2 (i 2) (feat h d))) + bias (ix1 (i 2))

/-- Which block each window holds at a grid point. The query block has the output block's batch and rows, keys and values have its
    batch and all rows, and the weight and the bias row are the whole arrays. -/
theorem idx : ∀ t : Fin grid0.N, win0_0.index t = ![win0_5.index t 0, win0_5.index t 1, 0] ∧ win0_1.index t = ![win0_5.index t 0, 0, 0]
    ∧ win0_2.index t = ![win0_5.index t 0, 0, 0] ∧ win0_3.index t = ![0, 0] ∧ win0_4.index t = ![0, 0] ∧ win0_5.index t 2 = 0 := by
  decide +kernel

/-- The blocks written back tile the result array. -/
theorem covers5 : (cfg0.win 5).Covers := by decide +kernel

/-- The query block at point `t` is the argument's rows that the output block has. -/
theorem query_apply (c : Dev nD) (t : Fin cfg0.N) (y : S1x512x64.Idx) (e : Fin 1024) :
    iblk m c 0 t (ix3 0 (y 1) e) = m ((c : Thread nD τ).loc main_arg0)
      (ix3 ((((cfg0.win 5).blk t).view.emb y) 0) ((((cfg0.win 5).blk t).view.emb y) 1) e) := by
  blk_ext [iblk, V, idx t]

/-- The key block at point `t` is the argument at the output block's batch. -/
theorem key_apply (c : Dev nD) (t : Fin cfg0.N) (y : S1x512x64.Idx) (j : Fin 2048) (e : Fin 1024) :
    iblk m c 1 t (ix3 0 j e) = m ((c : Thread nD τ).loc main_arg1) (ix3 ((((cfg0.win 5).blk t).view.emb y) 0) j e) := by
  blk_ext [iblk, V, idx t]

/-- The value block at point `t` is the argument at the output block's batch. -/
theorem value_apply (c : Dev nD) (t : Fin cfg0.N) (y : S1x512x64.Idx) (j : Fin 2048) (e : Fin 1024) :
    iblk m c 2 t (ix3 0 j e) = m ((c : Thread nD τ).loc main_arg2) (ix3 ((((cfg0.win 5).blk t).view.emb y) 0) j e) := by
  blk_ext [iblk, V, idx t]

/-- The weight block at every point is the argument. -/
theorem weight_apply (c : Dev nD) (t : Fin cfg0.N) (y : S1x512x64.Idx) (e : Fin 1024) :
    iblk m c 3 t (ix2 (y 2) e) = m ((c : Thread nD τ).loc main_arg3) (ix2 ((((cfg0.win 5).blk t).view.emb y) 2) e) := by
  blk_ext [iblk, V, idx t]

/-- The bias row at every point is the argument under a leading unit axis. -/
theorem bias_apply (c : Dev nD) (t : Fin cfg0.N) (y : S1x512x64.Idx) :
    iblk m c 4 t (ix2 0 (y 2)) = m ((c : Thread nD τ).loc main_arg4) (ix1 ((((cfg0.win 5).blk t).view.emb y) 2)) := by
  blk_point [iblk, V, idx t]

/-- After the run the result array holds `result` of the arguments. -/
theorem final (c : Dev nD) : (dats m 0 c).arrAt 5 cfg0.N =
    result (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ covers5 fun t _ y => ?_
  blk_simp
  rw [after0_5]
  obtain ⟨r, o, rfl⟩ : ∃ (r : Fin 512) (o : Fin 64), y = ix3 0 r o :=
    ⟨y 1, y 2, funext fun a => by fin_cases a <;> first | rfl | exact Subsingleton.elim (α := Fin 1) _ _⟩
  refine (out_apply _ _ _ _ _ r o).trans ?_
  unfold result
  have hq := query_apply m c t (ix3 0 r o)
  have hk := key_apply m c t (ix3 0 r o)
  have hv := value_apply m c t (ix3 0 r o)
  have hw := weight_apply m c t (ix3 0 r o)
  have hb := bias_apply m c t (ix3 0 r o)
  exact congrArg₂ (· + ·) (Finset.sum_congr rfl fun h _ => Finset.sum_congr rfl fun d _ => congrArg₂ (· * ·)
    (congrFun (congr (congr (congrArg mix (funext fun d => hq _)) (funext fun j => funext fun d => hk j _))
      (funext fun j => funext fun d => hv j _)) d) (hw _)) hb

end Cert.KernelIdeal.Array

end
-- ==== Proof.Reference.lean ====
/-
  What the reference computes, element by element: every head's softmax attention, the projection over all 1024 features,
  and the bias.
-/
module

public import proofs.«01_k».proof.Proof.Attention
public import proofs.«01_k».proof.Proof.Gen.ReferenceIdeal.Run
public import proofs.«01_k».proof.Proof.Gen.ReferenceIdeal.Read

@[expose] public section

set_option maxRecDepth 16384

noncomputable section

namespace Cert.ReferenceIdeal.Attn

open Cert.ReferenceIdeal Cert.ReferenceIdeal.Gen Cert.ReferenceIdeal.Read Idealize.ShloMosaic
open Cert.Attn

/-- An array of rows of 1024 features read at head `h`: its row `n` of batch `b`, coordinate `d`. -/
abbrev at_ (x : FVec Ideal S2x2048x1024 .f32) (b : Fin 2) (h : Fin 16) (n : Fin 2048) (d : Fin 64) : EReal :=
  x (ix3 b n (feat h d))

/-- The queries split into heads read the head's features of the argument. -/
theorem queries_apply (x : FVec Ideal S2x2048x1024 .f32) (b : Fin 2) (h : Fin 16) (n : Fin 2048) (d : Fin 64) :
    val_main_v1 (F := Ideal) x (ix4 b h n d) = at_ x b h n d := by
  pointwise [val_main_v1, val_main_v0]
  rfl

/-- The keys split into heads read the head's features of the argument. -/
theorem keys_apply (x : FVec Ideal S2x2048x1024 .f32) (b : Fin 2) (h : Fin 16) (n : Fin 2048) (d : Fin 64) :
    val_main_v3 (F := Ideal) x (ix4 b h n d) = at_ x b h n d := by
  pointwise [val_main_v3, val_main_v2]
  rfl

/-- The values split into heads read the head's features of the argument. -/
theorem values_apply (x : FVec Ideal S2x2048x1024 .f32) (b : Fin 2) (h : Fin 16) (n : Fin 2048) (d : Fin 64) :
    val_main_v5 (F := Ideal) x (ix4 b h n d) = at_ x b h n d := by
  pointwise [val_main_v5, val_main_v4]
  rfl

/-- The scaled scores are each query row's scores. -/
theorem scores_apply (x0 x1 : FVec Ideal S2x2048x1024 .f32) (b : Fin 2) (h : Fin 16) (n j : Fin 2048) :
    val_main_v8 (F := Ideal) x0 x1 (ix4 b h n j) = score (at_ x0 b h n) (at_ x1 b h) j := by
  unfold score
  pointwise [val_main_v8, val_main_v7, val_main_v6, val_main_cst]
  simp only [queries_apply, keys_apply]

/-- The row maxima are each query row's largest score. -/
theorem top_apply (x0 x1 : FVec Ideal S2x2048x1024 .f32) (b : Fin 2) (h : Fin 16) (n : Fin 2048) :
    val_main_v9 (F := Ideal) x0 x1 (ix3 b h n) = top (score (at_ x0 b h n) (at_ x1 b h)) := by
  unfold val_main_v9 top
  have hs : (fun j => val_main_v8 (F := Ideal) x0 x1 (ix4 b h n j)) = score (at_ x0 b h n) (at_ x1 b h) :=
    funext fun j => scores_apply x0 x1 b h n j
  rw [← hs]
  generalize val_main_v8 (F := Ideal) x0 x1 = s
  pointwise [val_main_cst_0]

/-- The exponentials' operations on any scores `s` and any row maxima `t`, read at an index. -/
theorem exps_apply (s : FVec Ideal S2x16x2048x2048 .f32) (t : FVec Ideal S2x16x2048 .f32) (b : Fin 2) (h : Fin 16) (n j : Fin 2048) :
    Host.exp (subf s (broadcastInDim S2x16x2048x2048 ![0, 1, 2, 3] bcast_S2x16x2048x1_S2x16x2048x2048_0_1_2_3
      (broadcastInDim S2x16x2048x1 ![0, 1, 2] bcast_S2x16x2048_S2x16x2048x1_0_1_2
        (maximumf (broadcastInDim S2x16x2048 ![] bcast_S_S2x16x2048 (constant S_ .f32 0xFF800000#32)) t)))) (ix4 b h n j)
      = Ideal.exp (s (ix4 b h n j) - max (Ideal.ofBits .f32 0xFF800000#32) (t (ix3 b h n))) := by
  pointwise

/-- The exponentials are each query row's weights. -/
theorem weights_apply (x0 x1 : FVec Ideal S2x2048x1024 .f32) (b : Fin 2) (h : Fin 16) (n j : Fin 2048) :
    val_main_v15 (F := Ideal) x0 x1 (ix4 b h n j) = weight (score (at_ x0 b h n) (at_ x1 b h)) j := by
  refine (exps_apply (val_main_v8 (F := Ideal) x0 x1) (val_main_v9 (F := Ideal) x0 x1) b h n j).trans ?_
  rw [scores_apply, top_apply, max_top, weight]

/-- The softmax is each query row's probabilities. -/
theorem probs_apply (x0 x1 : FVec Ideal S2x2048x1024 .f32) (b : Fin 2) (h : Fin 16) (n j : Fin 2048) :
    val_main_v19 (F := Ideal) x0 x1 (ix4 b h n j) = prob (score (at_ x0 b h n) (at_ x1 b h)) j := by
  unfold val_main_v19 val_main_v18 val_main_v17 val_main_v16 prob
  have hw := fun j => weights_apply x0 x1 b h n j
  generalize val_main_v15 (F := Ideal) x0 x1 = e at *
  pointwise [val_main_cst_2]
  simp only [hw]

/-- A head's output is the mixture of its values. -/
theorem mix_apply (x0 x1 x2 : FVec Ideal S2x2048x1024 .f32) (b : Fin 2) (h : Fin 16) (n : Fin 2048) (d : Fin 64) :
    val_main_v20 (F := Ideal) x0 x1 x2 (ix4 b h n d) = mix (at_ x0 b h n) (at_ x1 b h) (at_ x2 b h) d := by
  unfold val_main_v20 mix
  have hp := fun j => probs_apply x0 x1 b h n j
  have hv := fun j => values_apply x2 b h j d
  generalize val_main_v19 (F := Ideal) x0 x1 = p at *
  generalize val_main_v5 (F := Ideal) x2 = v at *
  pointwise
  simp only [hp, hv]

/-- The heads' outputs side by side: feature `feat h d` of a row is coordinate `d` of head `h`. -/
theorem joined_apply (x0 x1 x2 : FVec Ideal S2x2048x1024 .f32) (b : Fin 2) (h : Fin 16) (n : Fin 2048) (d : Fin 64) :
    val_main_v22 (F := Ideal) x0 x1 x2 (ix3 b n (feat h d)) = mix (at_ x0 b h n) (at_ x1 b h) (at_ x2 b h) d := by
  unfold val_main_v22 val_main_v21
  rw [← mix_apply]
  generalize val_main_v20 (F := Ideal) x0 x1 x2 = o
  pointwise [feat]

/-- The projection's operations on any rows `o` of 1024 features, read at an index. -/
theorem project_apply (o : FVec Ideal S2x2048x1024 .f32) (w : FVec Ideal S64x1024 .f32) (bias : FVec Ideal S64 .f32)
    (b : Fin 2) (n : Fin 2048) (c : Fin 64) :
    addf (Host.dotGeneral dot_S2x2048x1024_S1024x64_S2x2048x64_2_0_01_1_n_n none o
        (transpose S1024x64 [1, 0] w transposes_S64x1024_S1024x64_1_0))
      (broadcastInDim S2x2048x64 ![0, 1, 2] bcast_S1x1x64_S2x2048x64_0_1_2
        (broadcastInDim S1x1x64 ![2] bcast_S64_S1x1x64_2 bias)) (ix3 b n c)
      = (∑ e : Fin 1024, o (ix3 b n e) * w (ix2 c e)) + bias (ix1 c) := by
  pointwise

/-- The reference's element: the heads' projected attention, summed over the heads, and the bias. -/
theorem result_apply (x0 x1 x2 : FVec Ideal S2x2048x1024 .f32) (w : FVec Ideal S64x1024 .f32) (bias : FVec Ideal S64 .f32)
    (b : Fin 2) (n : Fin 2048) (c : Fin 64) :
    val_main_v27 (F := Ideal) x0 x1 x2 w bias (ix3 b n c)
      = (∑ h : Fin 16, ∑ d : Fin 64, mix (at_ x0 b h n) (at_ x1 b h) (at_ x2 b h) d * w (ix2 c (feat h d))) + bias (ix1 c) := by
  refine (project_apply (val_main_v22 (F := Ideal) x0 x1 x2) w bias b n c).trans ?_
  rw [sum_feat (fun e => val_main_v22 (F := Ideal) x0 x1 x2 (ix3 b n e) * w (ix2 c e))]
  refine congrArg (· + bias (ix1 c)) (Finset.sum_congr rfl fun h _ => Finset.sum_congr rfl fun d _ => ?_)
  exact congrArg (· * w (ix2 c (feat h d))) (joined_apply x0 x1 x2 b h n d)

end Cert.ReferenceIdeal.Attn

end
-- ==== Proof.lean ====
/-
  The proof of `Cert.Claim` (Defs.lean): the attention kernel and its reference both run and leave their arguments alone, and over the
  extended reals they end with equal results. Head.lean reads one head of the kernel, Block.lean one grid point's block, Array.lean the
  result array; Reference.lean reads the reference's result. Here the two readings are set side by side.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Array
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs, its arguments end unchanged and every counter is back at zero. -/
theorem frame_kernel : Cert.quiescent_Kernel := fun m g _ => Cert.Kernel.Gen.frame m g

/-- The same of the kernel read over the extended reals. -/
theorem frame_kernelIdeal : Cert.quiescent_KernelIdeal := fun m g _ => Cert.KernelIdeal.Gen.frame m g

/-- The reference runs and its arguments end unchanged; it declares no semaphore, so no counter moves. -/
theorem frame_referenceIdeal : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

/-- No operation was rewritten for the reading over the extended reals, so nothing is left to show. -/
theorem preserves : Cert.preserves_Kernel_KernelIdeal := trivial

/-- The reference's result and the kernel's result of the same arguments are one array. -/
theorem results_eq (x0 x1 x2 : FVec Ideal Cert.KernelIdeal.S2x2048x1024 .f32) (w : FVec Ideal Cert.KernelIdeal.S64x1024 .f32)
    (bias : FVec Ideal Cert.KernelIdeal.S64 .f32) :
    Cert.ReferenceIdeal.Read.val_main_v27 (F := Ideal) x0 x1 x2 w bias = Cert.KernelIdeal.Array.result x0 x1 x2 w bias := by
  funext i
  obtain ⟨b, n, c, rfl⟩ : ∃ (b : Fin 2) (n : Fin 2048) (c : Fin 64), i = ix3 b n c :=
    ⟨i 0, i 1, i 2, funext fun a => by fin_cases a <;> rfl⟩
  exact Cert.ReferenceIdeal.Attn.result_apply x0 x1 x2 w bias b n c

/-- From the same arguments the kernel and the reference both run, end with equal results and leave their arguments unchanged. -/
theorem algebraic : Cert.algebraic_KernelIdeal_ReferenceIdeal := by
  intro m g m' g' _ hagree
  refine ⟨fun c => (Cert.KernelIdeal.Gen.dats m 0 c).arrAt 5 Cert.KernelIdeal.cfg0.N, Cert.KernelIdeal.Value.run_blocks m g,
    (θ_run Cert.ReferenceIdeal.defs _ _).mono (fun r h c => ⟨(h c).1.trans ?_, (h c).2⟩) (Cert.ReferenceIdeal.Value.run m' g')⟩
  obtain ⟨h0, h1, h2, h3, h4⟩ := hagree c
  rw [Cert.ReferenceIdeal.Read.val_main_v27_eq, h0, h1, h2, h3, h4]
  exact (results_eq _ _ _ _ _).trans (Cert.KernelIdeal.Array.final m c).symm

/-- Every claim of this certificate. -/
theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
